-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v5)) (v1 : (c : Dev Cert.KernelIdeal.nD) → Buf (Elt Ideal) ((c.tc : Thread Cert.KernelIdeal.nD Cert.KernelIdeal.τ).loc Cert.KernelIdeal.main_v6)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v5) = v0 c
          ∧ r.2.mem ((c.tc : Thread Cert.KernelIdeal.nD Cert.KernelIdeal.τ).loc Cert.KernelIdeal.main_v6) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x1024x3456 : Shape := ⟨3, ![8, 1024, 3456]⟩
abbrev S8x1024x1 : Shape := ⟨3, ![8, 1024, 1]⟩
abbrev S3456x5120 : Shape := ⟨2, ![3456, 5120]⟩
abbrev S5120 : Shape := ⟨1, ![5120]⟩
abbrev S8192x3456 : Shape := ⟨2, ![8192, 3456]⟩
abbrev S8192x1 : Shape := ⟨2, ![8192, 1]⟩
abbrev S1x5120 : Shape := ⟨2, ![1, 5120]⟩
abbrev S8192x5120 : Shape := ⟨2, ![8192, 5120]⟩
abbrev S256x3456 : Shape := ⟨2, ![256, 3456]⟩
abbrev S256x1 : Shape := ⟨2, ![256, 1]⟩
abbrev S256x5120 : Shape := ⟨2, ![256, 5120]⟩
abbrev S256 : Shape := ⟨1, ![256]⟩
abbrev S8x1024x5120 : Shape := ⟨3, ![8, 1024, 5120]⟩

abbrev nBuf : Space → Nat
  | .hbm => 13
  | .vmem => 11
  | .smem => 0
  | _ => 0

abbrev bufTy : (tb : Table) → Fin (tcTables nBuf tb) → BufTy
  | .hbm, ⟨0, _⟩ => ⟨S8x1024x3456, .fp8e4m3⟩
  | .hbm, ⟨1, _⟩ => ⟨S8x1024x1, .f32⟩
  | .hbm, ⟨2, _⟩ => ⟨S3456x5120, .fp8e4m3⟩
  | .hbm, ⟨3, _⟩ => ⟨S5120, .f32⟩
  | .hbm, ⟨4, _⟩ => ⟨S5120, .f32⟩
  | .hbm, ⟨5, _⟩ => ⟨S8192x3456, .fp8e4m3⟩
  | .hbm, ⟨6, _⟩ => ⟨S8192x1, .f32⟩
  | .hbm, ⟨7, _⟩ => ⟨S1x5120, .f32⟩
  | .hbm, ⟨8, _⟩ => ⟨S1x5120, .f32⟩
  | .hbm, ⟨9, _⟩ => ⟨S8192x1, .f32⟩
  | .hbm, ⟨10, _⟩ => ⟨S8192x5120, .fp8e4m3⟩
  | .hbm, ⟨11, _⟩ => ⟨S8x1024x1, .f32⟩
  | .hbm, ⟨12, _⟩ => ⟨S8x1024x5120, .fp8e4m3⟩
  | .local _ .vmem, ⟨0, _⟩ => ⟨S256x3456, .fp8e4m3⟩
  | .local _ .vmem, ⟨1, _⟩ => ⟨S256x3456, .fp8e4m3⟩
  | .local _ .vmem, ⟨2, _⟩ => ⟨S256x1, .f32⟩
  | .local _ .vmem, ⟨3, _⟩ => ⟨S256x1, .f32⟩
  | .local _ .vmem, ⟨4, _⟩ => ⟨S3456x5120, .fp8e4m3⟩
  | .local _ .vmem, ⟨5, _⟩ => ⟨S1x5120, .f32⟩
  | .local _ .vmem, ⟨6, _⟩ => ⟨S1x5120, .f32⟩
  | .local _ .vmem, ⟨7, _⟩ => ⟨S256x1, .f32⟩
  | .local _ .vmem, ⟨8, _⟩ => ⟨S256x1, .f32⟩
  | .local _ .vmem, ⟨9, _⟩ => ⟨S256x5120, .fp8e4m3⟩
  | .local _ .vmem, ⟨10, _⟩ => ⟨S256x5120, .fp8e4m3⟩
  | _, _ => ⟨S8x1024x3456, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4_0 : Ref sig .tc := ⟨.hbm, 9, rfl⟩
abbrev main_v4_1 : Ref sig .tc := ⟨.hbm, 10, rfl⟩
abbrev main_v5 : Ref sig .tc := ⟨.hbm, 11, rfl⟩
abbrev main_v6 : Ref sig .tc := ⟨.hbm, 12, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x3456 .fp8e4m3 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S3456x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S256x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S256x5120 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== ReferenceIdeal.lean ====
abbrev S8x1024x3456 : Shape := ⟨3, ![8, 1024, 3456]⟩
abbrev S8x1024x1 : Shape := ⟨3, ![8, 1024, 1]⟩
abbrev S3456x5120 : Shape := ⟨2, ![3456, 5120]⟩
abbrev S5120 : Shape := ⟨1, ![5120]⟩
abbrev S8x1024x5120 : Shape := ⟨3, ![8, 1024, 5120]⟩
abbrev S1x1x5120 : Shape := ⟨3, ![1, 1, 5120]⟩
abbrev S8x1024 : Shape := ⟨2, ![8, 1024]⟩

abbrev nBuf : Space → Nat
  | .hbm => 7
  | .vmem => 7
  | .smem => 0
  | _ => 0

abbrev bufTy : (tb : Table) → Fin (tcTables nBuf tb) → BufTy
  | .hbm, ⟨0, _⟩ => ⟨S8x1024x3456, .fp8e4m3⟩
  | .hbm, ⟨1, _⟩ => ⟨S8x1024x1, .f32⟩
  | .hbm, ⟨2, _⟩ => ⟨S3456x5120, .fp8e4m3⟩
  | .hbm, ⟨3, _⟩ => ⟨S5120, .f32⟩
  | .hbm, ⟨4, _⟩ => ⟨S5120, .f32⟩
  | .hbm, ⟨5, _⟩ => ⟨S8x1024x1, .f32⟩
  | .hbm, ⟨6, _⟩ => ⟨S8x1024x5120, .fp8e4m3⟩
  | .local _ .vmem, ⟨0, _⟩ => ⟨S8x1024x3456, .fp8e4m3⟩
  | .local _ .vmem, ⟨1, _⟩ => ⟨S8x1024x1, .f32⟩
  | .local _ .vmem, ⟨2, _⟩ => ⟨S3456x5120, .fp8e4m3⟩
  | .local _ .vmem, ⟨3, _⟩ => ⟨S5120, .f32⟩
  | .local _ .vmem, ⟨4, _⟩ => ⟨S5120, .f32⟩
  | .local _ .vmem, ⟨5, _⟩ => ⟨S8x1024x1, .f32⟩
  | .local _ .vmem, ⟨6, _⟩ => ⟨S8x1024x5120, .fp8e4m3⟩
  | _, _ => ⟨S8x1024x3456, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0_0 : Ref sig .tc := ⟨.hbm, 5, rfl⟩
abbrev main_v0_1 : Ref sig .tc := ⟨.hbm, 6, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6

abbrev nD : Nat := 1
abbrev τ : Topo := Topo.v7x

variable {F : FTy → Type} [FloatOps F]

abbrev grid0 : Pipeline.Grid := .none

abbrev stage0_0 : Fin 1 → Memref sig .tc .vmem S8x1024x3456 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S8x1024x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S3456x5120 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S5120 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S5120 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S8x1024x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S8x1024x5120 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
-- ==== Proof.Scale.lean ====
/-
  ONE ROW'S SCALE, on extended reals. The kernel finds the exponent of `a`, a row's largest magnitude over 448, by
  comparing `a` with the powers of two that the eight bits of a float32's exponent field name, the highest bit first, and
  builds the scale and its inverse by writing an exponent field. The reference takes `⌊log a / log 2⌋ + 1` and raises 2 to
  it. Here: `field` is the kernel's search as a function of `a`, `kernelExp` and `referenceExp` are the two exponents of a
  row with largest magnitude `m`, and `scale_eq` and `inverse_eq` say that the two scales and the two inverses are equal,
  for every extended real `m`.
-/
module

public import Idealize.ShloMosaic.PureOps.Ideal.Laws
public import Idealize.ShloMosaic.Lib.IdealHost

@[expose] public section

noncomputable section

namespace Cert.Proof.Scale

open Idealize.ShloMosaic

/-! ### Powers of two written as an exponent field -/

/-- The float32 whose exponent field is `f` and whose other bits are zero. -/
def power (f : BitVec 32) : EReal := Ideal.ofBits .f32 (IntOp.shli .vector f 23#32)

/-- What `power` is at a field of eight bits: zero, a power of two, and infinity at the last. -/
def level (n : ℕ) : EReal := if n = 0 then 0 else if n < 255 then (((2 : ℝ) ^ ((n : ℤ) - 127) : ℝ) : EReal) else ⊤

/-- The three parts of the pattern with field `n`: no sign, the field, no fraction. -/
theorem parts : ∀ n : Fin 256,
    (IntOp.shli .vector (BitVec.ofNat 32 n.val) 23#32).extractLsb' 31 1 = 0#1
      ∧ ((IntOp.shli .vector (BitVec.ofNat 32 n.val) 23#32).extractLsb' 23 8).toNat = n.val
      ∧ ((IntOp.shli .vector (BitVec.ofNat 32 n.val) 23#32).extractLsb' 0 23).toNat = 0 := by
  decide +kernel

/-- A significand of one at twenty-three places, scaled by its exponent, is the power of two. -/
theorem significand (n : ℕ) :
    ((2 ^ 23 + 0 : ℕ) : ℝ) * (2 : ℝ) ^ ((n : ℤ) - (2 ^ (8 - 1) - 1 : ℤ) - ((23 : ℕ) : ℤ)) = (2 : ℝ) ^ ((n : ℤ) - 127) := by
  have h23 : ((2 ^ 23 + 0 : ℕ) : ℝ) = (2 : ℝ) ^ (23 : ℤ) := by norm_num
  rw [h23, ← zpow_add₀ (by norm_num : (2 : ℝ) ≠ 0)]
  congr 1
  norm_num

theorem power_eq (n : ℕ) (hn : n < 256) : power (BitVec.ofNat 32 n) = level n := by
  obtain ⟨h0, h1, h2⟩ := parts ⟨n, hn⟩
  dsimp only at h0 h1 h2
  unfold power level
  show Ideal.ieee 8 23 _ = _
  unfold Ideal.ieee
  dsimp only
  rw [show (8 + 23 : ℕ) = 31 from rfl, h0, h1, h2]
  have hs : ((0#1 : BitVec 1) == 1#1) = false := by decide
  rw [hs]
  by_cases hz : n = 0
  · subst hz; simp
  by_cases hl : n < 255
  · rw [if_neg (by omega), if_neg hz, if_neg hz, if_pos hl]
    refine congrArg Real.toEReal ?_
    rw [if_neg Bool.false_ne_true, one_mul]
    exact significand n
  · rw [if_pos (by omega), if_neg hz, if_neg hl]; simp

/-! ### The search -/

/-- One step: the field with `bit` added, where `a` is at least the power that it names. -/
def step (a : EReal) (bit f : BitVec 32) : BitVec 32 :=
  Scalar.select (Ideal.cmp .oge a (power (IntOp.addi f bit))) (IntOp.addi f bit) f

/-- The eight steps, from the highest bit down. -/
def field (a : EReal) : BitVec 32 :=
  step a 1#32 (step a 2#32 (step a 4#32 (step a 8#32 (step a 16#32 (step a 32#32 (step a 64#32 (step a 128#32 0#32)))))))

/-- A comparison's bit chooses by what it compares. -/
theorem select_ofBool {α : Type} (p : Prop) [Decidable p] (x y : α) :
    Scalar.select (BitVec.ofBool (decide p)) x y = if p then x else y := by
  unfold Scalar.select
  by_cases h : p <;> simp [h]

/-- `f` is the field of a number of eight bits whose power is at most `a`, and the power `w` further on is above `a`. -/
def Between (a : EReal) (w : ℕ) (f : BitVec 32) : Prop :=
  ∃ n : ℕ, f = BitVec.ofNat 32 n ∧ n + w ≤ 256 ∧ level n ≤ a ∧ a < level (n + w)

theorem step_between (a : EReal) (b : ℕ) (hb : 0 < b) (f : BitVec 32) (h : Between a (2 * b) f) :
    Between a b (step a (BitVec.ofNat 32 b) f) := by
  obtain ⟨n, rfl, hn, hlo, hhi⟩ := h
  have hadd : IntOp.addi (BitVec.ofNat 32 n) (BitVec.ofNat 32 b) = BitVec.ofNat 32 (n + b) := by
    show BitVec.ofNat 32 n + BitVec.ofNat 32 b = _
    rw [BitVec.ofNat_add]
  unfold step
  rw [hadd, power_eq (n + b) (by omega)]
  unfold Ideal.cmp
  rw [select_ofBool]
  split_ifs with hc
  · exact ⟨n + b, rfl, by omega, hc, by rwa [show n + b + b = n + 2 * b by omega]⟩
  · exact ⟨n, rfl, by omega, hlo, not_le.mp hc⟩

/-- The search ends at the field whose power is the last at most `a`. -/
theorem field_between (a : EReal) (h0 : 0 ≤ a) (hT : a < ⊤) : Between a 1 (field a) := by
  have h : Between a (2 * 128) 0#32 := ⟨0, rfl, by norm_num, by simpa [level] using h0, by simpa [level] using hT⟩
  have h := step_between a 128 (by norm_num) _ h
  have h := step_between a 64 (by norm_num) _ h
  have h := step_between a 32 (by norm_num) _ h
  have h := step_between a 16 (by norm_num) _ h
  have h := step_between a 8 (by norm_num) _ h
  have h := step_between a 4 (by norm_num) _ h
  have h := step_between a 2 (by norm_num) _ h
  exact step_between a 1 (by norm_num) _ h

/-! ### The logarithm -/

/-- The rounded-down base-2 logarithm of a number between two neighbouring powers of two. -/
theorem floor_log (r : ℝ) (z : ℤ) (hlo : (2 : ℝ) ^ z ≤ r) (hhi : r < (2 : ℝ) ^ (z + 1)) :
    ⌊Real.log r / Real.log 2⌋ = z := by
  have h2 : 0 < Real.log 2 := Real.log_pos (by norm_num)
  have hz : (0 : ℝ) < (2 : ℝ) ^ z := by positivity
  have hr : 0 < r := hz.trans_le hlo
  rw [Int.floor_eq_iff]
  constructor
  · rw [le_div_iff₀ h2, ← Real.log_zpow]
    exact Real.log_le_log hz hlo
  · rw [div_lt_iff₀ h2, show ((z : ℝ) + 1) = ((z + 1 : ℤ) : ℝ) by push_cast; rfl, ← Real.log_zpow]
    exact Real.log_lt_log hr hhi

/-- The base-2 exponential of a whole number. -/
theorem exp2_int (z : ℤ) : Ideal.exp2 ((z : ℝ) : EReal) = (((2 : ℝ) ^ z : ℝ) : EReal) := by
  rw [Ideal.exp2_coe]
  congr 1
  exact Real.rpow_intCast 2 z

/-! ### The two exponents -/

/-- The range in which `a` has an exponent of its own: the normal float32s below 2 ^ 120. -/
def inRange (a : EReal) : BitVec 1 :=
  IntOp.andi (Ideal.cmp .oge a (Ideal.ofBits .f32 0x00800000#32)) (Ideal.cmp .olt a (Ideal.ofBits .f32 0x7B800000#32))

/-- A row's largest magnitude over 448. -/
def over448 (m : EReal) : EReal := m * Ideal.ofBits .f32 0x3B124925#32

/-- The kernel's exponent of a row with largest magnitude `m`. -/
def kernelExp (m : EReal) : BitVec 32 :=
  Scalar.select (Ideal.cmp .oeq m (Ideal.ofBits .f32 0x00000000#32)) 0#32
    (Scalar.select (inRange (over448 m)) (IntOp.subi (field (over448 m)) 126#32) 0#32)

/-- The reference's. -/
def referenceExp (m : EReal) : EReal :=
  Scalar.select (Ideal.cmp .oeq m (Ideal.ofBits .f32 0x00000000#32)) (Ideal.ofBits .f32 0x00000000#32)
    (Scalar.select (inRange (over448 m))
      (Ideal.liftRound Int.floor (Ideal.div (Ideal.log (over448 m)) (Ideal.log (Ideal.ofBits .f32 0x40000000#32)))
        + Ideal.ofBits .f32 0x3F800000#32)
      (Ideal.ofBits .f32 0x00000000#32))

theorem tiny_eq : Ideal.ofBits .f32 0x00800000#32 = (((2 : ℝ) ^ (-126 : ℤ) : ℝ) : EReal) := by
  have h := power_eq 1 (by norm_num)
  have e : IntOp.shli .vector (BitVec.ofNat 32 1) 23#32 = 0x00800000#32 := by decide
  unfold power at h
  rw [e] at h
  rw [h]
  unfold level
  norm_num

theorem limit_eq : Ideal.ofBits .f32 0x7B800000#32 = (((2 : ℝ) ^ (120 : ℤ) : ℝ) : EReal) := by
  have h := power_eq 247 (by norm_num)
  have e : IntOp.shli .vector (BitVec.ofNat 32 247) 23#32 = 0x7B800000#32 := by decide
  unfold power at h
  rw [e] at h
  rw [h]
  unfold level
  norm_num

theorem two_eq : Ideal.ofBits .f32 0x40000000#32 = ((2 : ℝ) : EReal) := by
  have h := power_eq 128 (by norm_num)
  have e : IntOp.shli .vector (BitVec.ofNat 32 128) 23#32 = 0x40000000#32 := by decide
  unfold power at h
  rw [e] at h
  rw [h]
  unfold level
  norm_num

/-- In the range, the search's field less 126 is the reference's exponent. -/
theorem exponent (a : EReal) (hlo : Ideal.ofBits .f32 0x00800000#32 ≤ a) (hhi : a < Ideal.ofBits .f32 0x7B800000#32) :
    ∃ n : ℕ, 1 ≤ n ∧ n ≤ 246 ∧ field a = BitVec.ofNat 32 n
      ∧ Ideal.liftRound Int.floor (Ideal.div (Ideal.log a) (Ideal.log (Ideal.ofBits .f32 0x40000000#32)))
          + Ideal.ofBits .f32 0x3F800000#32 = (((n : ℤ) - 126 : ℤ) : ℝ) := by
  rw [tiny_eq] at hlo
  rw [limit_eq] at hhi
  obtain ⟨r, rfl⟩ : ∃ r : ℝ, a = r := by
    refine ⟨a.toReal, (EReal.coe_toReal ?_ ?_).symm⟩
    · rintro rfl; exact absurd hhi (by simp)
    · rintro rfl; exact absurd hlo (by simp)
  rw [EReal.coe_le_coe_iff] at hlo
  rw [EReal.coe_lt_coe_iff] at hhi
  have hr : 0 < r := lt_of_lt_of_le (by positivity) hlo
  obtain ⟨n, hf, hn, h1, h2⟩ := field_between (r : EReal) (by exact_mod_cast hr.le) (EReal.coe_lt_top r)
  -- the field is not 0 and not past 246
  have hn0 : 1 ≤ n := by
    by_contra hc
    obtain rfl : n = 0 := by omega
    have : r < (2 : ℝ) ^ (-126 : ℤ) := by
      have h2' := h2
      unfold level at h2'
      norm_num at h2'
      have : (r : EReal) < (((2 : ℝ) ^ (-126 : ℤ) : ℝ) : EReal) := by
        simpa [level] using h2
      exact EReal.coe_lt_coe_iff.mp this
    linarith
  have hn1 : n ≤ 246 := by
    by_contra hc
    by_cases hl : n < 255
    · have h1' : (((2 : ℝ) ^ ((n : ℤ) - 127) : ℝ) : EReal) ≤ (r : EReal) := by
        rw [level, if_neg (by omega), if_pos hl] at h1; exact h1
      have h1'' := EReal.coe_le_coe_iff.mp h1'
      have : (2 : ℝ) ^ (120 : ℤ) ≤ (2 : ℝ) ^ ((n : ℤ) - 127) := zpow_le_zpow_right₀ (by norm_num) (by omega)
      linarith
    · rw [level, if_neg (by omega), if_neg hl] at h1
      exact absurd h1 (by simp)
  rw [level, if_neg (by omega), if_pos (by omega)] at h1 h2
  have h1 := EReal.coe_le_coe_iff.mp h1
  have h2 := EReal.coe_lt_coe_iff.mp h2
  refine ⟨n, hn0, hn1, hf, ?_⟩
  have hfl := floor_log r ((n : ℤ) - 127) h1 (by
    rwa [show ((n : ℤ) - 127 + 1) = (((n + 1 : ℕ) : ℤ) - 127) by push_cast; ring])
  have h2pos : 0 < Real.log 2 := Real.log_pos (by norm_num)
  rw [two_eq, Ideal.log_coe, Ideal.log_coe, if_neg (not_le.mpr hr), if_neg (by norm_num), Ideal.div_coe h2pos.ne',
    ← EReal.coe_mul, Ideal.ofBits_one_f32]
  have e : Real.log r * (1 / Real.log 2) = Real.log r / Real.log 2 := by ring
  rw [e]
  show (((⌊Real.log r / Real.log 2⌋ : ℤ) : ℝ) : EReal) + 1 = _
  rw [hfl]
  rw [show (1 : EReal) = ((1 : ℝ) : EReal) by norm_cast, ← EReal.coe_add]
  congr 1
  push_cast
  ring

/-- Either both exponents are 0, or they are the same whole number between -125 and 120. -/
theorem exps (m : EReal) : ∃ z : ℤ, -125 ≤ z ∧ z ≤ 120 ∧ kernelExp m = BitVec.ofInt 32 z ∧ referenceExp m = ((z : ℝ) : EReal) := by
  unfold kernelExp referenceExp inRange Ideal.cmp
  rw [select_ofBool, select_ofBool]
  have hz : Ideal.ofBits .f32 0x00000000#32 = (((0 : ℤ) : ℝ) : EReal) := by simp
  by_cases h0 : m = Ideal.ofBits .f32 0x00000000#32
  · rw [if_pos h0, if_pos h0]
    exact ⟨0, by norm_num, by norm_num, rfl, hz⟩
  rw [if_neg h0, if_neg h0]
  have hand : ∀ p q : Prop, ∀ [Decidable p] [Decidable q], IntOp.andi (BitVec.ofBool (decide p)) (BitVec.ofBool (decide q)) = BitVec.ofBool (decide (p ∧ q)) := by
    intro p q _ _
    by_cases hp : p <;> by_cases hq : q <;> simp [hp, hq, IntOp.andi]
  dsimp only
  rw [hand, select_ofBool, select_ofBool]
  split_ifs with hr
  · obtain ⟨n, h1, h2, hf, hlog⟩ := exponent (over448 m) hr.1 hr.2
    refine ⟨(n : ℤ) - 126, by omega, by omega, ?_, hlog⟩
    rw [hf]
    show BitVec.ofNat 32 n - 126#32 = _
    rw [sub_eq_add_neg, BitVec.ofInt_add]
    rw [BitVec.ofInt_natCast, BitVec.sub_eq_add_neg]
    rfl
  · exact ⟨0, by norm_num, by norm_num, rfl, hz⟩

/-- Writing an exponent with 127 added as a field makes the power of two. -/
theorem power_exp (z : ℤ) (hlo : -126 ≤ z) (hhi : z ≤ 127) :
    power (IntOp.addi (BitVec.ofInt 32 z) 127#32) = Ideal.exp2 ((z : ℝ) : EReal) := by
  obtain ⟨n, rfl⟩ : ∃ n : ℕ, z = (n : ℤ) - 127 := ⟨(z + 127).toNat, by omega⟩
  have e : IntOp.addi (BitVec.ofInt 32 ((n : ℤ) - 127)) 127#32 = BitVec.ofNat 32 n := by
    show BitVec.ofInt 32 ((n : ℤ) - 127) + 127#32 = _
    have h127 : BitVec.ofInt 32 127 = 127#32 := by decide
    rw [← h127, ← BitVec.ofInt_add, sub_add_cancel]
    exact BitVec.ofInt_natCast 32 n
  rw [e, power_eq n (by omega), exp2_int, level, if_neg (by omega), if_pos (by omega)]

/-- THE SCALES ARE EQUAL. -/
theorem scale_eq (m : EReal) : power (IntOp.addi (kernelExp m) 127#32) = Ideal.exp2 (referenceExp m) := by
  obtain ⟨z, h1, h2, hk, hr⟩ := exps m
  rw [hk, hr, power_exp z (by omega) (by omega)]

/-- THE INVERSES ARE EQUAL. -/
theorem inverse_eq (m : EReal) :
    power (IntOp.addi (IntOp.subi 0#32 (kernelExp m)) 127#32) = Ideal.exp2 (Ideal.ofBits .f32 0x00000000#32 - referenceExp m) := by
  obtain ⟨z, h1, h2, hk, hr⟩ := exps m
  have e : IntOp.subi 0#32 (BitVec.ofInt 32 z) = BitVec.ofInt 32 (-z) := by
    show 0#32 - BitVec.ofInt 32 z = _
    rw [BitVec.ofInt_neg, BitVec.zero_sub]
  rw [hk, hr, e, power_exp (-z) (by omega) (by omega)]
  congr 1
  rw [Ideal.ofBits_zero_f32, zero_sub, ← EReal.coe_neg]
  congr 1
  push_cast
  rfl

end Cert.Proof.Scale

end
-- ==== Proof.Rows.lean ====
/-
  WHAT ONE BLOCK AND THE WHOLE ARRAY HOLD, at an index, on extended reals. `line` is one row of the scaled product with the
  bias added, `rowMax` the largest magnitude in a row, `rowScale` and `rowCode` the row's scale and its codes. Every result
  of the kernel's body on one block of rows and every result of the reference on the whole arrays is one of these, of the
  row's own operands.
-/
module

public import proofs.«01_k».proof.Defs
public import proofs.«01_k».proof.Proof.Scale
public import proofs.«01_k».proof.Proof.Gen.KernelIdeal.Frame
public import proofs.«01_k».proof.Proof.Gen.ReferenceIdeal.Value
public import Idealize.ShloMosaic.Lib.Pointwise

@[expose] public section

set_option maxRecDepth 16384

noncomputable section

namespace Cert.Proof.Rows

open Idealize.ShloMosaic Cert.Proof.Scale

/-- One row of the result before it is quantised: the row's product with the weight, times the row's scale and the
    column's, plus the column's bias. -/
def line (x : Fin 3456 → EReal) (w : Fin 3456 → Fin 5120 → EReal) (xs : EReal) (ws b : Fin 5120 → EReal) (q : Fin 5120) :
    EReal :=
  (∑ k : Fin 3456, x k * w k q) * xs * ws q + b q

/-- The largest magnitude in a row. -/
def rowMax (y : Fin 5120 → EReal) : EReal :=
  Finset.univ.fold max (FloatOps.ofBits (F := Ideal) .f32 0xFF800000#32) fun q => FloatOps.absf (F := Ideal) (φ := .f32) (y q)

/-- A row's scale. -/
def rowScale (y : Fin 5120 → EReal) : EReal := Ideal.exp2 (referenceExp (rowMax y))

/-- A row's codes: its entries over its scale, held to the range of the eight-bit float. -/
def rowCode (y : Fin 5120 → EReal) (q : Fin 5120) : EReal :=
  min (Ideal.ofBits .f32 0x43E00000#32) (max (Ideal.ofBits .f32 0xC3E00000#32)
    (y q * Ideal.exp2 (Ideal.ofBits .f32 0x00000000#32 - referenceExp (rowMax y))))

/-! ### The kernel's body on one block -/

section Kernel

open Cert.KernelIdeal Cert.KernelIdeal.Gen

/-- The search in the body, from its second step's result on. -/
theorem pay11_apply (v20 : FVec Ideal S256x1 .f32) (v35 : IVec S256x1 32) (i : S256x1.Idx) :
    k0_pay11 (F := Ideal) v20 v35 (addi v35 (broadcast S256x1 32#32)) (k0_pay9) i
      = IntOp.subi (step (v20 i) 1#32 (step (v20 i) 2#32 (step (v20 i) 4#32 (step (v20 i) 8#32 (step (v20 i) 16#32
          (step (v20 i) 32#32 (v35 i))))))) 126#32 := rfl

/-- Two steps of the search on vectors, at an index. -/
theorem two_steps (a : FVec Ideal S256x1 .f32) (f : IVec S256x1 32) (b b' : BitVec 32) (i : S256x1.Idx) :
    select (cmpf .oge a (bitcastToFloat .f32 (shli
        (addi (select (cmpf .oge a (bitcastToFloat .f32 (shli (addi f (broadcast S256x1 b)) (broadcast S256x1 23#32))))
          (addi f (broadcast S256x1 b)) f) (broadcast S256x1 b')) (broadcast S256x1 23#32))))
      (addi (select (cmpf .oge a (bitcastToFloat .f32 (shli (addi f (broadcast S256x1 b)) (broadcast S256x1 23#32))))
        (addi f (broadcast S256x1 b)) f) (broadcast S256x1 b'))
      (select (cmpf .oge a (bitcastToFloat .f32 (shli (addi f (broadcast S256x1 b)) (broadcast S256x1 23#32))))
        (addi f (broadcast S256x1 b)) f) i
      = step (a i) b' (step (a i) b (f i)) := rfl

/-- The body's exponent at an index, of the largest magnitude, of that over 448 and of the search's second step. -/
theorem exponent_of (M A : FVec Ideal S256x1 .f32) (f : IVec S256x1 32) (i : S256x1.Idx) (hA : A i = over448 (M i))
    (hf : f i = step (A i) 64#32 (step (A i) 128#32 0#32)) :
    k0_pay1 (F := Ideal) M (k0_pay10 A) (k0_pay11 A f (addi f (broadcast S256x1 32#32)) k0_pay9) 0#32 i
      = kernelExp (M i) := by
  have h11 := pay11_apply A f i
  have h1 : ∀ (r : IVec S256x1 1) (e : IVec S256x1 32), k0_pay1 (F := Ideal) M r e 0#32 i
        = Scalar.select (Ideal.cmp .oeq (M i) (Ideal.ofBits .f32 0x00000000#32)) 0#32 (Scalar.select (r i) (e i) 0#32) :=
    fun _ _ => rfl
  have h10 : k0_pay10 (F := Ideal) A i = inRange (A i) := rfl
  refine (h1 _ _).trans ?_
  rw [h10, h11, hf, hA]
  rfl

theorem over_of (M : FVec Ideal S256x1 .f32) (i : S256x1.Idx) :
    mulf M (broadcast S256x1 (Scalar.ofBits .f32 0x3B124925#32)) i = over448 (M i) := rfl

variable (v0 : Vec Ideal S256x3456 .fp8e4m3) (v2 : Vec Ideal S3456x5120 .fp8e4m3) (v4 : Vec Ideal S256x1 .f32)
  (v8 v12 : Vec Ideal S1x5120 .f32)

/-- The body's exponents are `kernelExp` of the rows' largest magnitudes. -/
theorem exponents (i : S256x1.Idx) :
    k0_pay1 (F := Ideal) (k0_pay5 v0 v2 v4 v8 v12) (k0_pay10 (k0_pay6 v0 v2 v4 v8 v12))
        (k0_pay11 (k0_pay6 v0 v2 v4 v8 v12) (k0_pay7 v0 v2 v4 v8 v12) (k0_pay8 v0 v2 v4 v8 v12) k0_pay9) 0#32 i
      = kernelExp (k0_pay5 v0 v2 v4 v8 v12 i) := by
  refine exponent_of _ _ _ i ?_ ?_
  · unfold k0_pay6
    exact over_of _ i
  · unfold k0_pay7
    exact two_steps _ _ _ _ i

/-- An entry of the block before it is quantised. -/
theorem pay4_apply (p : Fin 256) (q : Fin 5120) :
    k0_pay4 (F := Ideal) v0 v2 v4 v8 v12 (ix2 p q)
      = line (fun k => v0 (ix2 p k)) (fun k q => v2 (ix2 k q)) (v4 (ix2 p 0)) (fun q => v8 (ix2 0 q))
          (fun q => v12 (ix2 0 q)) q := by
  unfold k0_pay4 line
  pointwise

/-- A row's largest magnitude. -/
theorem pay5_apply (p : Fin 256) :
    k0_pay5 (F := Ideal) v0 v2 v4 v8 v12 (ix2 p 0)
      = rowMax (line (fun k => v0 (ix2 p k)) (fun k q => v2 (ix2 k q)) (v4 (ix2 p 0)) (fun q => v8 (ix2 0 q))
          (fun q => v12 (ix2 0 q))) := by
  unfold k0_pay5 rowMax
  pointwise
  refine congrArg (fun f => Finset.fold max _ f Finset.univ) (funext fun q => ?_)
  rw [pay4_apply]

end Kernel

end Cert.Proof.Rows

end
-- ==== Proof.Block.lean ====
/-
  THE KERNEL'S BODY ON ONE BLOCK OF ROWS: at row `p` its two results are `rowScale` and `rowCode` of the block's row `p`.
-/
module

public import proofs.«01_k».proof.Proof.Rows

@[expose] public section

set_option maxRecDepth 16384

noncomputable section

namespace Cert.Proof.Block

open Idealize.ShloMosaic Cert.Proof.Scale Cert.Proof.Rows
open Cert.KernelIdeal Cert.KernelIdeal.Gen

theorem hz : (![0, 0] : Fin 2 → Nat) = fun _ => 0 := funext fun a => by fin_cases a <;> rfl

/-- The stored scale, of the exponents. -/
theorem pay2_apply (M : FVec Ideal S256x1 .f32) (r : IVec S256x1 1) (e : IVec S256x1 32) (i : S256x1.Idx) :
    k0_pay2 (F := Ideal) M r e 0#32 i = power (IntOp.addi (k0_pay1 (F := Ideal) M r e 0#32 i) 127#32) := by
  unfold k0_pay2
  generalize k0_pay1 (F := Ideal) M r e 0#32 = E
  rfl

/-- The stored codes, of the block before it is quantised and the exponents. -/
theorem pay3_apply (y : FVec Ideal S256x5120 .f32) (M : FVec Ideal S256x1 .f32) (r : IVec S256x1 1) (e : IVec S256x1 32)
    (p : Fin 256) (q : Fin 5120) :
    k0_pay3 (F := Ideal) y M r e 0#32 (ix2 p q)
      = min (Ideal.ofBits .f32 0x43E00000#32) (max (Ideal.ofBits .f32 0xC3E00000#32)
          (y (ix2 p q) * power (IntOp.addi (IntOp.subi 0#32 (k0_pay1 (F := Ideal) M r e 0#32 (ix2 p 0))) 127#32))) := by
  unfold k0_pay3
  generalize k0_pay1 (F := Ideal) M r e 0#32 = E
  have h : ∀ i, (bitcastToFloat .f32 (shli (addi (subi (broadcast S256x1 0#32) E) (broadcast S256x1 127#32))
      (broadcast S256x1 23#32)) : FVec Ideal S256x1 .f32) i = power (IntOp.addi (IntOp.subi 0#32 (E i)) 127#32) := fun _ => rfl
  rw [← h]
  generalize (bitcastToFloat .f32 (shli (addi (subi (broadcast S256x1 0#32) E) (broadcast S256x1 127#32))
      (broadcast S256x1 23#32)) : FVec Ideal S256x1 .f32) = D
  pointwise

variable (x0 : Vec Ideal S256x3456 .fp8e4m3) (x1 : Vec Ideal S256x1 .f32) (x2 : Vec Ideal S3456x5120 .fp8e4m3)
  (x3 x4 : Vec Ideal S1x5120 .f32)

/-- Row `p` of a block before it is quantised. -/
def blockLine (p : Fin 256) : Fin 5120 → EReal :=
  line (fun k => x0 (ix2 p k)) (fun k q => x2 (ix2 k q)) (x1 (ix2 p 0)) (fun q => x3 (ix2 0 q)) (fun q => x4 (ix2 0 q))

theorem block_scale (p : Fin 256) : out0_5 (F := Ideal) x0 x1 x2 x3 x4 (ix2 p 0) = rowScale (blockLine x0 x1 x2 x3 x4 p) := by
  unfold_out out0_5
  rw [View.canon_unit_zero hz, View.ld_unit_zero (S := S256x3456) hz _ x0, View.ld_unit_zero (S := S3456x5120) hz _ x2,
    View.ld_unit_zero (S := S256x1) hz _ x1, View.ld_unit_zero (S := S1x5120) hz _ x3,
    View.ld_unit_zero (S := S1x5120) hz _ x4, pay2_apply, exponents, scale_eq, pay5_apply]
  rfl

theorem block_code (p : Fin 256) (q : Fin 5120) :
    out0_6 (F := Ideal) x0 x1 x2 x3 x4 (ix2 p q) = rowCode (blockLine x0 x1 x2 x3 x4 p) q := by
  unfold_out out0_6
  rw [View.canon_unit_zero hz, View.ld_unit_zero (S := S256x3456) hz _ x0, View.ld_unit_zero (S := S3456x5120) hz _ x2,
    View.ld_unit_zero (S := S256x1) hz _ x1, View.ld_unit_zero (S := S1x5120) hz _ x3,
    View.ld_unit_zero (S := S1x5120) hz _ x4, pay3_apply, exponents, inverse_eq, pay5_apply, pay4_apply]
  rfl

end Cert.Proof.Block

end
-- ==== Proof.Whole.lean ====
/-
  THE REFERENCE'S TWO RESULTS on the whole arrays: at row `s` of batch `b` they are `rowScale` and `rowCode` of that row.
-/
module

public import proofs.«01_k».proof.Proof.Rows

@[expose] public section

set_option maxRecDepth 16384

noncomputable section

namespace Cert.Proof.Whole

open Idealize.ShloMosaic Cert.Proof.Scale Cert.Proof.Rows
open Cert.ReferenceIdeal Cert.ReferenceIdeal.Gen

/-- The exponents as vectors, of the rows' largest magnitudes. -/
theorem exponent_of (M : FVec Ideal S8x1024x1 .f32) (j : S8x1024x1.Idx) :
    select (cmpf .oeq M (broadcast S8x1024x1 (Scalar.ofBits .f32 0x00000000#32)))
      (broadcast S8x1024x1 (Scalar.ofBits .f32 0x00000000#32))
      (select (andi (cmpf .oge (mulf M (broadcast S8x1024x1 (Scalar.ofBits .f32 0x3B124925#32)))
            (broadcast S8x1024x1 (Scalar.ofBits .f32 0x00800000#32)))
          (cmpf .olt (mulf M (broadcast S8x1024x1 (Scalar.ofBits .f32 0x3B124925#32)))
            (broadcast S8x1024x1 (Scalar.ofBits .f32 0x7B800000#32))))
        (addf (floor (divf (log (mulf M (broadcast S8x1024x1 (Scalar.ofBits .f32 0x3B124925#32))))
            (broadcast S8x1024x1 (Scalar.log (Scalar.ofBits .f32 0x40000000#32)))))
          (broadcast S8x1024x1 (Scalar.ofBits .f32 0x3F800000#32)))
        (broadcast S8x1024x1 (Scalar.ofBits .f32 0x00000000#32))) j
      = referenceExp (M j) := rfl

theorem exp2_apply (E : FVec Ideal S8x1024x1 .f32) (j : S8x1024x1.Idx) : exp2 E j = Ideal.exp2 (E j) := rfl

theorem inverse_apply (E : FVec Ideal S8x1024x1 .f32) (j : S8x1024x1.Idx) :
    exp2 (subf (k0_pay5 (F := Ideal)) E) j = Ideal.exp2 (Ideal.ofBits .f32 0x00000000#32 - E j) := rfl

/-- The codes, of the array before it is quantised and the inverse scales. -/
theorem code_of (Y : FVec Ideal S8x1024x5120 .f32) (E : FVec Ideal S8x1024x1 .f32) (i : Fin 8) (s : Fin 1024) (q : Fin 5120) :
    k0_pay1 (F := Ideal) Y E k0_pay5 (ix3 i s q)
      = min (Ideal.ofBits .f32 0x43E00000#32) (max (Ideal.ofBits .f32 0xC3E00000#32)
          (Y (ix3 i s q) * Ideal.exp2 (Ideal.ofBits .f32 0x00000000#32 - E (ix3 i s 0)))) := by
  rw [← inverse_apply]
  unfold k0_pay1
  generalize (exp2 (subf k0_pay5 E) : FVec Ideal S8x1024x1 .f32) = D
  pointwise

variable (x : Vec Ideal S8x1024x3456 .fp8e4m3) (xs : Vec Ideal S8x1024x1 .f32) (w : Vec Ideal S3456x5120 .fp8e4m3)
  (ws b : Vec Ideal S5120 .f32)

/-- Row `s` of batch `i` before it is quantised. -/
def wholeLine (i : Fin 8) (s : Fin 1024) : Fin 5120 → EReal :=
  line (fun k => x (ix3 i s k)) (fun k q => w (ix2 k q)) (xs (ix3 i s 0)) (fun q => ws (ix1 q)) (fun q => b (ix1 q))

theorem pay2_apply (i : Fin 8) (s : Fin 1024) (q : Fin 5120) :
    k0_pay2 (F := Ideal) x w xs ws b (ix3 i s q) = wholeLine x xs w ws b i s q := by
  unfold k0_pay2 wholeLine line
  pointwise

/-- The rows' largest magnitudes. -/
theorem max_apply (i : Fin 8) (s : Fin 1024) :
    shapeCast S8x1024x1 (multiReduction (F := Ideal) .maximumf [2] S8x1024 (absf (k0_pay2 x w xs ws b)) 0xFF800000#32
      reduces_S8x1024x5120_S8x1024 (.inl rfl) rfl) shapeCasts_S8x1024_S8x1024x1 (ix3 i s 0)
      = rowMax (wholeLine x xs w ws b i s) := by
  unfold rowMax
  pointwise
  refine congrArg (fun f => Finset.fold max _ f Finset.univ) (funext fun q => ?_)
  rw [pay2_apply]

/-- The reference's exponents are `referenceExp` of the rows' largest magnitudes. -/
theorem pay3_apply (i : Fin 8) (s : Fin 1024) :
    k0_pay3 (F := Ideal) x w xs ws b (ix3 i s 0) = referenceExp (rowMax (wholeLine x xs w ws b i s)) := by
  rw [← max_apply]
  unfold k0_pay3
  exact exponent_of _ _

theorem whole_scale (i : Fin 8) (s : Fin 1024) :
    Cert.ReferenceIdeal.Value.G5 (F := Ideal) x xs w ws b (ix3 i s 0) = rowScale (wholeLine x xs w ws b i s) := by
  unfold rowScale
  rw [← pay3_apply]
  unfold Cert.ReferenceIdeal.Value.G5 k0_pay4
  exact exp2_apply _ _

theorem whole_code (i : Fin 8) (s : Fin 1024) (q : Fin 5120) :
    Cert.ReferenceIdeal.Value.G6 (F := Ideal) x xs w ws b (ix3 i s q) = rowCode (wholeLine x xs w ws b i s) q := by
  unfold rowCode
  rw [← pay3_apply, ← pay2_apply]
  unfold Cert.ReferenceIdeal.Value.G6
  exact code_of _ _ i s q

end Cert.Proof.Whole

end
-- ==== Proof.Arrays.lean ====
/-
  THE KERNEL'S TWO ARRAYS AFTER THE RUN. The grid's 32 points take 256 rows each of the 8192 rows that the batch and the
  sequence make together; row `r` is row `r % 1024` of batch `r / 1024`. Each point writes `rowScale` and `rowCode` of its
  rows, so the two arrays hold these at every row, and the reshapes after the kernel lay them out by batch and sequence:
  the reference's two results.
-/
module

public import proofs.«01_k».proof.Proof.Block
public import proofs.«01_k».proof.Proof.Whole
public import Idealize.ShloMosaic.Lib.Pipeline.ValueKit
public import Idealize.ShloMosaic.Lib.Claim

@[expose] public section

set_option maxRecDepth 16384

noncomputable section

namespace Cert.Proof.Arrays

open Idealize.ShloMosaic Idealize.ShloMosaic.TcCoe Idealize.SL.Sem
open Cert.Proof.Rows Cert.Proof.Block Cert.Proof.Whole
open Cert.KernelIdeal Cert.KernelIdeal.Gen
open Idealize.ShloMosaic.Pipeline (Dat)

variable (m : (ℓ : Loc nD τ sig) → Buf (Elt Ideal) ℓ) (ρ : Dev nD → PrngReg) (c : Dev nD)

/-- The batch and the place in the sequence of a row. -/
def batch (r : Fin 8192) : Fin 8 := ⟨r.val / 1024, by omega⟩
def place (r : Fin 8192) : Fin 1024 := ⟨r.val % 1024, by omega⟩

/-- A row before it is quantised, of the argument arrays as launched. -/
abbrev rowLine (r : Fin 8192) : Fin 5120 → EReal :=
  wholeLine (m ((c : Thread nD τ).loc main_arg0)) (m ((c : Thread nD τ).loc main_arg1)) (m ((c : Thread nD τ).loc main_arg2))
    (m ((c : Thread nD τ).loc main_arg3)) (m ((c : Thread nD τ).loc main_arg4)) (batch r) (place r)

/-! ### The blocks of the argument arrays at a grid point -/

theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![0, 0] := (by decide +kernel : ∀ t : Fin grid0.N, win0_2.index t = ![0, 0])
theorem index3 : ∀ t : Fin cfg0.N, win0_3.index t = ![0, 0] := (by decide +kernel : ∀ t : Fin grid0.N, win0_3.index t = ![0, 0])
theorem index4 : ∀ t : Fin cfg0.N, win0_4.index t = ![0, 0] := (by decide +kernel : ∀ t : Fin grid0.N, win0_4.index t = ![0, 0])
theorem index5 : ∀ t : Fin cfg0.N, win0_5.index t = ![t.val, 0] := (by decide +kernel : ∀ t : Fin grid0.N, win0_5.index t = ![t.val, 0])
theorem index6 : ∀ t : Fin cfg0.N, win0_6.index t = ![t.val, 0] := (by decide +kernel : ∀ t : Fin grid0.N, win0_6.index t = ![t.val, 0])

/-- Row `p` of point `t`'s block. -/
def rowAt (t : Fin cfg0.N) (p : Fin 256) : Fin 8192 :=
  ⟨t.val * 256 + p.val, by have h : t.val < 32 := lt_of_lt_of_eq t.isLt N_0; omega⟩

/-! The reshapes before the kernel, as the region finds their results. -/

theorem entry0 : V m c main_v0 = shapeCast S8192x3456 (m ((c : Thread nD τ).loc main_arg0)) shapeCasts_S8x1024x3456_S8192x3456 := by
  entry_read
  simp only [hostOps0, List.flatten_cons, List.flatten_nil, List.append_nil]
  after_results
  rfl

theorem entry1 : V m c main_v1 = shapeCast S8192x1 (m ((c : Thread nD τ).loc main_arg1)) shapeCasts_S8x1024x1_S8192x1 := by
  entry_read
  simp only [hostOps0, List.flatten_cons, List.flatten_nil, List.append_nil]
  after_results
  rfl

theorem entry2 : V m c main_v2 = shapeCast S1x5120 (m ((c : Thread nD τ).loc main_arg3)) shapeCasts_S5120_S1x5120 := by
  entry_read
  simp only [hostOps0, List.flatten_cons, List.flatten_nil, List.append_nil]
  after_results
  rfl

theorem entry3 : V m c main_v3 = shapeCast S1x5120 (m ((c : Thread nD τ).loc main_arg4)) shapeCasts_S5120_S1x5120 := by
  entry_read
  simp only [hostOps0, List.flatten_cons, List.flatten_nil, List.append_nil]
  after_results
  rfl

theorem row_split (r : Fin 8192) : (batch r).val * 1024 + (place r).val = r.val := by
  show r.val / 1024 * 1024 + r.val % 1024 = r.val
  omega

theorem block0 (t : Fin cfg0.N) (p : Fin 256) (k : Fin 3456) :
    iblk m c 0 t (ix2 p k) = m ((c : Thread nD τ).loc main_arg0) (ix3 (batch (rowAt t p)) (place (rowAt t p)) k) := by
  blk_simp [iblk]
  rw [entry0, shapeCast_apply _ _ _ (ix3 (batch (rowAt t p)) (place (rowAt t p)) k) ?_]
  rw [Shape.rowMajor_val_two, Shape.rowMajor_val_three]
  blk_simp [index0]
  rw [row_split]
  rfl

theorem block1 (t : Fin cfg0.N) (p : Fin 256) :
    iblk m c 1 t (ix2 p 0) = m ((c : Thread nD τ).loc main_arg1) (ix3 (batch (rowAt t p)) (place (rowAt t p)) 0) := by
  blk_simp [iblk]
  rw [entry1, shapeCast_apply _ _ _ (ix3 (batch (rowAt t p)) (place (rowAt t p)) 0) ?_]
  rw [Shape.rowMajor_val_two, Shape.rowMajor_val_three]
  blk_simp [index1]
  rw [row_split]
  rfl

theorem block2 (t : Fin cfg0.N) (k : Fin 3456) (q : Fin 5120) :
    iblk m c 2 t (ix2 k q) = m ((c : Thread nD τ).loc main_arg2) (ix2 k q) := by
  blk_simp [iblk]
  rw [V_main_arg2]
  blk_ext [index2]

theorem block3 (t : Fin cfg0.N) (q : Fin 5120) :
    iblk m c 3 t (ix2 0 q) = m ((c : Thread nD τ).loc main_arg3) (ix1 q) := by
  blk_simp [iblk]
  rw [entry2, shapeCast_apply _ _ _ (ix1 q) ?_]
  rw [Shape.rowMajor_val_two, Shape.rowMajor_val_one]
  blk_simp [index3]
  show q.val = 0 * 5120 + q.val
  omega

theorem block4 (t : Fin cfg0.N) (q : Fin 5120) :
    iblk m c 4 t (ix2 0 q) = m ((c : Thread nD τ).loc main_arg4) (ix1 q) := by
  blk_simp [iblk]
  rw [entry3, shapeCast_apply _ _ _ (ix1 q) ?_]
  rw [Shape.rowMajor_val_two, Shape.rowMajor_val_one]
  blk_simp [index4]
  show q.val = 0 * 5120 + q.val
  omega

/-- A row of a point's block is the row of the argument arrays. -/
theorem blockLine_eq (t : Fin cfg0.N) (p : Fin 256) :
    blockLine (iblk m c 0 t) (iblk m c 1 t) (iblk m c 2 t) (iblk m c 3 t) (iblk m c 4 t) p = rowLine m c (rowAt t p) := by
  unfold blockLine rowLine wholeLine
  rw [block1]
  simp only [block0, block2, block3, block4]

/-! ### The two arrays after the run -/

/-- The scales by row, and the codes by row and column. -/
def scales : Buf (Elt Ideal) ((c : Thread nD τ).loc main_v4_0) := fun j : S8192x1.Idx => rowScale (rowLine m c (j 0))
def codes : Buf (Elt Ideal) ((c : Thread nD τ).loc main_v4_1) := fun j : S8192x5120.Idx => rowCode (rowLine m c (j 0)) (j 1)

/-- Where row `p` of a point's block lies in the array of scales. -/
theorem place5 (t : Fin cfg0.N) (p : Fin 256) : ((win0_5.blk t).view.emb (ix2 p 0)) 0 = rowAt t p := by
  refine Fin.ext ?_
  blk_simp [index5]
  rfl

/-- Where an entry of a point's block lies in the array of codes. -/
theorem place6 (t : Fin cfg0.N) (p : Fin 256) (q : Fin 5120) :
    ((win0_6.blk t).view.emb (ix2 p q)) 0 = rowAt t p ∧ ((win0_6.blk t).view.emb (ix2 p q)) 1 = q := by
  constructor
  · refine Fin.ext ?_
    blk_simp [index6]
    rfl
  · refine Fin.ext ?_
    blk_simp [index6]

theorem final_scales : (dats m 0 c).arrAt 5 cfg0.N = scales m c := by
  refine (dats m 0 c).arrAt_eq_of_covers 5 _ (by decide +kernel) fun t hf y => ?_
  blk_simp
  rw [after0_5]
  obtain ⟨p, rfl⟩ : ∃ p : Fin 256, y = (ix2 p 0 : S256x1.Idx) :=
    ⟨y 0, funext fun a => by
      match a with
      | ⟨0, _⟩ => rfl
      | ⟨1, _⟩ => exact Subsingleton.elim (α := Fin 1) _ _⟩
  refine (block_scale _ _ _ _ _ p).trans ?_
  rw [blockLine_eq, ← place5]
  rfl

theorem final_codes : (dats m 0 c).arrAt 6 cfg0.N = codes m c := by
  refine (dats m 0 c).arrAt_eq_of_covers 6 _ (by decide +kernel) fun t hf y => ?_
  blk_simp
  rw [after0_6]
  obtain ⟨p, q, rfl⟩ : ∃ (p : Fin 256) (q : Fin 5120), y = (ix2 p q : S256x5120.Idx) :=
    ⟨y 0, y 1, funext fun a => by
      match a with
      | ⟨0, _⟩ => rfl
      | ⟨1, _⟩ => rfl⟩
  refine (block_code _ _ _ _ _ p q).trans ?_
  obtain ⟨h0, h1⟩ := place6 t p q
  rw [blockLine_eq]
  show _ = rowCode (rowLine m c (((win0_6.blk t).view.emb (ix2 p q)) 0)) (((win0_6.blk t).view.emb (ix2 p q)) 1)
  rw [h0, h1]

/-! ### The reshapes after the kernel -/

/-- Row `s` of batch `i`, as a row of the kernel's arrays. -/
def flat (i : Fin 8) (s : Fin 1024) : Fin 8192 := ⟨i.val * 1024 + s.val, by omega⟩

theorem batch_flat (i : Fin 8) (s : Fin 1024) : batch (flat i s) = i := by
  refine Fin.ext ?_
  show (i.val * 1024 + s.val) / 1024 = i.val
  omega

theorem place_flat (i : Fin 8) (s : Fin 1024) : place (flat i s) = s := by
  refine Fin.ext ?_
  show (i.val * 1024 + s.val) % 1024 = s.val
  omega

abbrev refScales : Vec Ideal S8x1024x1 .f32 :=
  Cert.ReferenceIdeal.Value.G5 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

abbrev refCodes : Vec Ideal S8x1024x5120 .fp8e4m3 :=
  Cert.ReferenceIdeal.Value.G6 (F := Ideal) (m ((c : Thread nD τ).loc main_arg0)) (m ((c : Thread nD τ).loc main_arg1))
    (m ((c : Thread nD τ).loc main_arg2)) (m ((c : Thread nD τ).loc main_arg3)) (m ((c : Thread nD τ).loc main_arg4))

/-- The scales laid out by batch and sequence are the reference's. -/
theorem scales_eq : shapeCast S8x1024x1 (scales m c : Vec Ideal S8192x1 .f32) shapeCasts_S8192x1_S8x1024x1 = refScales m c := by
  funext j
  obtain ⟨i, s, rfl⟩ : ∃ (i : Fin 8) (s : Fin 1024), j = ix3 i s 0 :=
    ⟨j 0, j 1, funext fun a => by
      match a with
      | ⟨0, _⟩ => rfl
      | ⟨1, _⟩ => rfl
      | ⟨2, _⟩ => exact Subsingleton.elim (α := Fin 1) _ _⟩
  rw [shapeCast_apply _ _ _ (ix2 (flat i s) 0) (by rw [Shape.rowMajor_val_two, Shape.rowMajor_val_three]; rfl)]
  refine Eq.trans ?_ (whole_scale _ _ _ _ _ i s).symm
  show rowScale (rowLine m c (flat i s)) = _
  unfold rowLine
  rw [batch_flat, place_flat]

/-- The codes laid out by batch and sequence are the reference's. -/
theorem codes_eq :
    shapeCast S8x1024x5120 (codes m c : Vec Ideal S8192x5120 .fp8e4m3) shapeCasts_S8192x5120_S8x1024x5120 = refCodes m c := by
  funext j
  obtain ⟨i, s, q, rfl⟩ : ∃ (i : Fin 8) (s : Fin 1024) (q : Fin 5120), j = ix3 i s q :=
    ⟨j 0, j 1, j 2, funext fun a => by
      match a with
      | ⟨0, _⟩ => rfl
      | ⟨1, _⟩ => rfl
      | ⟨2, _⟩ => rfl⟩
  rw [shapeCast_apply _ _ _ (ix2 (flat i s) q) (by rw [Shape.rowMajor_val_two, Shape.rowMajor_val_three]; rfl)]
  refine Eq.trans ?_ (whole_code _ _ _ _ _ i s q).symm
  show rowCode (rowLine m c (flat i s)) q = _
  unfold rowLine
  rw [batch_flat, place_flat]

end Cert.Proof.Arrays

end
-- ==== Proof.Run.lean ====
/-
  THE KERNEL'S RUN: from any memory it ends with the reference's two results, of its own arguments, and with the arguments
  unchanged.
-/
module

public import proofs.«01_k».proof.Proof.Arrays

@[expose] public section

set_option maxRecDepth 16384

noncomputable section

namespace Cert.Proof.Run

open Idealize.ShloMosaic Idealize.ShloMosaic.TcCoe Idealize.SL.Sem
open Cert.Proof.Arrays
open Cert.KernelIdeal Cert.KernelIdeal.Gen

variable (m : (ℓ : Loc nD τ sig) → Buf (Elt Ideal) ℓ) (ρ : Dev nD → PrngReg)

/-- What the reshapes after the kernel leave in the two results. -/
theorem tail_scales (c : Dev nD) :
    Pipeline.afterTail₀ cfgs (dats m) 0 (V0 m) [hostOps1] c main_v5
      = shapeCast S8x1024x1 ((dats m 0 c).arrAt 5 cfg0.N : Vec Ideal S8192x1 .f32) shapeCasts_S8192x1_S8x1024x1 := by
  unfold Pipeline.afterTail₀
  simp only [hostOps1, List.flatten_cons, List.flatten_nil, List.append_nil]
  after_results
  exact congrArg (fun v => shapeCast S8x1024x1 (v : Vec Ideal S8192x1 .f32) shapeCasts_S8192x1_S8x1024x1)
    (Pipeline.withArrays_arr (cfgs 0).spec (by decide) c (V0 m c) (fun w => (dats m 0 c).arrAt w cfg0.N) 5)

theorem tail_codes (c : Dev nD) :
    Pipeline.afterTail₀ cfgs (dats m) 0 (V0 m) [hostOps1] c main_v6
      = shapeCast S8x1024x5120 ((dats m 0 c).arrAt 6 cfg0.N : Vec Ideal S8192x5120 .fp8e4m3) shapeCasts_S8192x5120_S8x1024x5120 := by
  unfold Pipeline.afterTail₀
  simp only [hostOps1, List.flatten_cons, List.flatten_nil, List.append_nil]
  after_results
  exact congrArg (fun v => shapeCast S8x1024x5120 (v : Vec Ideal S8192x5120 .fp8e4m3) shapeCasts_S8192x5120_S8x1024x5120)
    (Pipeline.withArrays_arr (cfgs 0).spec (by decide) c (V0 m c) (fun w => (dats m 0 c).arrAt w cfg0.N) 6)

theorem run : θ_run (defs (F := Ideal)) (onTc (τ := τ) (main (F := Ideal))) ⟨m, fun _ => 0, ρ⟩ fun r => ∀ c : Dev nD,
      r.2.mem ((c : Thread nD τ).loc main_v5) = refScales m c
      ∧ r.2.mem ((c : Thread nD τ).loc main_v6) = refCodes m c
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4) := by
  refine (θ_run defs _ _).mono (fun r h c => ⟨?_, ?_, h.2 c⟩) (θ_run_and (run_main (F := Ideal) m ρ) (unchanged m ρ))
  · refine ((h.1 c).2 main_v5 (Pipeline.mem_restRefs_of main_v5 (by decide) (by decide))).trans ?_
    rw [tail_scales, final_scales, scales_eq]
  · refine ((h.1 c).2 main_v6 (Pipeline.mem_restRefs_of main_v6 (by decide) (by decide))).trans ?_
    rw [tail_codes, final_codes, codes_eq]

end Cert.Proof.Run

end
-- ==== Proof.lean ====
/-
  THE PROOF OF THE CLAIM: the kernel, its idealization and the reference each run from any memory and leave their arguments
  unchanged; the idealization rewrote nothing; and on extended reals the kernel and the reference, from equal arguments, end
  with equal scales and equal codes. The pieces: Proof/Scale.lean (one row's scale), Proof/Rows.lean and Proof/Block.lean
  (the kernel's body on a block), Proof/Whole.lean (the reference), Proof/Arrays.lean and Proof/Run.lean (the kernel's arrays
  after the grid and the reshapes).
-/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.Gen.ReferenceIdeal.Value
public import proofs.«01_k».proof.Proof.Run
public import Idealize.ShloMosaic.Adequacy
public import Idealize.ShloMosaic.Init

@[expose] public section

noncomputable section

namespace Cert.Proof

open Idealize.ShloMosaic Idealize.SL.Sem Cert.Kernel

/-- The frames are the generated ones; the results of the two idealized programs are the reference's, of the kernel's
    arguments, which the reference's arguments agree with. -/
theorem claim : Cert.Claim := ⟨Cert.Kernel.Gen.facts, Cert.KernelIdeal.Gen.facts, Cert.ReferenceIdeal.Gen.facts,
  fun m ρ _ => Cert.Kernel.Gen.frame m ρ, fun m ρ _ => Cert.KernelIdeal.Gen.frame m ρ,
  fun m ρ _ => Cert.ReferenceIdeal.Gen.frame m ρ, trivial,
  fun m ρ m' ρ' _ agree => ⟨Arrays.refScales m, Arrays.refCodes m, Run.run m ρ,
    (θ_run _ _ _).mono (fun _ h c => by
      obtain ⟨h5, h6, h⟩ := h c
      obtain ⟨a0, a1, a2, a3, a4⟩ := agree c
      refine ⟨h5.trans ?_, h6.trans ?_, h⟩
      · rw [a0, a1, a2, a3, a4]
      · rw [a0, a1, a2, a3, a4]) (Cert.ReferenceIdeal.Value.run m' ρ')⟩⟩

end Cert.Proof

end
